-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_hot_inputs [hPre_one_hot_inputs : Cert.Pre_one_hot_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_one_hot_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_hot_inputs [hPre_one_hot_inputs : Cert.Pre_one_hot_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_hot_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_hot_inputs [hKernelIdeal : Cert.KernelIdeal.Facts] [hPre_one_hot_inputs : Cert.Pre_one_hot_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_hot_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_hot_inputs [hReferenceIdeal : Cert.ReferenceIdeal.Facts] [hPre_one_hot_inputs : Cert.Pre_one_hot_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_hot_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_hot_inputs [hKernelIdeal : Cert.KernelIdeal.Facts] [hReferenceIdeal : Cert.ReferenceIdeal.Facts] [hPre_one_hot_inputs : Cert.Pre_one_hot_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_hot_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_hot_inputs : Cert.Pre_one_hot_inputs.Facts),
    quiescent_Kernel (hKernel := hKernel)
    ∧ quiescent_KernelIdeal (hKernelIdeal := hKernelIdeal)
    ∧ quiescent_KernelIdeal_pre_one_hot_inputs (hKernelIdeal := hKernelIdeal) (hPre_one_hot_inputs := hPre_one_hot_inputs)
    ∧ quiescent_ReferenceIdeal (hReferenceIdeal := hReferenceIdeal)
    ∧ quiescent_ReferenceIdeal_pre_one_hot_inputs (hReferenceIdeal := hReferenceIdeal) (hPre_one_hot_inputs := hPre_one_hot_inputs)
    ∧ preserves_Kernel_KernelIdeal
    ∧ algebraic_KernelIdeal_ReferenceIdeal_pre_one_hot_inputs (hKernelIdeal := hKernelIdeal) (hReferenceIdeal := hReferenceIdeal) (hPre_one_hot_inputs := hPre_one_hot_inputs)
-- ==== Pre_one_hot_inputs.lean ====
abbrev S1024x20 : Shape := ⟨2, ![1024, 20]⟩
abbrev S1000x1000 : Shape := ⟨2, ![1000, 1000]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_

variable [Facts]

def fn_where {F : FTy → Type} [FloatOps F] (arg0 : IVec S1000x1000 1) (arg1 : FVec F S_ .f32) (arg2 : FVec F S_ .f32) : FVec F S1000x1000 .f32 :=
  let v0 : FVec F S1000x1000 .f32 := broadcastInDim S1000x1000 ![] bcast_S_S1000x1000 arg1
  let v1 : FVec F S1000x1000 .f32 := broadcastInDim S1000x1000 ![] bcast_S_S1000x1000 arg2
  let v2 : FVec F S1000x1000 .f32 := select arg0 v0 v1
  v2

def fn {F : FTy → Type} [FloatOps F] (main_arg0 : IVec S1024x20 32) (main_arg1 : FVec F S1000x1000 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 1000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  let main_v6 : IVec S1000x1000 32 := iotaInDim S1000x1000 32 0
  let main_v7 : IVec S1000x1000 32 := iotaInDim S1000x1000 32 1
  let main_v8 : IVec S1000x1000 1 := cmpi .eq main_v6 main_v7
  let main_cst : FVec F S_ .f32 := constant S_ .f32 0x3F800000#32
  let main_cst_2 : FVec F S_ .f32 := constant S_ .f32 0x00000000#32
  let main_v9 : FVec F S1000x1000 .f32 := fn_where (F := F) main_v8 main_cst main_cst_2
  let main_v10 : FVec F S1000x1000 .f32 := id main_v9
  let main_v11 : IVec S1000x1000 1 := cmpf .oeq main_arg1 main_v10
  let main_c_3 : IVec S_ 1 := constantI S_ 1 1#1
  let main_v12 : IVec S_ 1 := (fun x v => Host.reduce IntOp.andi x v reducesTo_S1000x1000_S_d0_1 h_S_) main_v11 main_c_3
  let main_v13 : IVec S_ 1 := andi main_v5 main_v12
  main_v13
-- ==== Kernel.lean ====
abbrev S1024x20 : Shape := ⟨2, ![1024, 20]⟩
abbrev S1000x1000 : Shape := ⟨2, ![1000, 1000]⟩
abbrev S20x1024 : Shape := ⟨2, ![20, 1024]⟩
abbrev S20x1x1024 : Shape := ⟨3, ![20, 1, 1024]⟩
abbrev S20x1000x1024 : Shape := ⟨3, ![20, 1000, 1024]⟩
abbrev S1x1x1024 : Shape := ⟨3, ![1, 1, 1024]⟩
abbrev S1x1000x1024 : Shape := ⟨3, ![1, 1000, 1024]⟩
abbrev S1x1024 : Shape := ⟨2, ![1, 1024]⟩
abbrev S1024x1000x20 : Shape := ⟨3, ![1024, 1000, 20]⟩

abbrev nBuf : Space → Nat
  | .hbm => 6
  | .vmem => 4
  | .smem => 0
  | _ => 0

abbrev bufTy : (tb : Table) → Fin (tcTables nBuf tb) → BufTy
  | .hbm, ⟨0, _⟩ => ⟨S1024x20, .i32⟩
  | .hbm, ⟨1, _⟩ => ⟨S1000x1000, .f32⟩
  | .hbm, ⟨2, _⟩ => ⟨S20x1024, .i32⟩
  | .hbm, ⟨3, _⟩ => ⟨S20x1x1024, .i32⟩
  | .hbm, ⟨4, _⟩ => ⟨S20x1000x1024, .f32⟩
  | .hbm, ⟨5, _⟩ => ⟨S1024x1000x20, .f32⟩
  | .local _ .vmem, ⟨0, _⟩ => ⟨S1x1x1024, .i32⟩
  | .local _ .vmem, ⟨1, _⟩ => ⟨S1x1x1024, .i32⟩
  | .local _ .vmem, ⟨2, _⟩ => ⟨S1x1000x1024, .f32⟩
  | .local _ .vmem, ⟨3, _⟩ => ⟨S1x1000x1024, .f32⟩
  | _, _ => ⟨S1024x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x20 : Shape := ⟨2, ![1024, 20]⟩
abbrev S1000x1000 : Shape := ⟨2, ![1000, 1000]⟩
abbrev S20480 : Shape := ⟨1, ![20480]⟩
abbrev S_ : Shape := ⟨0, ![]⟩
abbrev S20480x1 : Shape := ⟨2, ![20480, 1]⟩
abbrev S1 : Shape := ⟨1, ![1]⟩
abbrev S1x1 : Shape := ⟨2, ![1, 1]⟩
abbrev S20480x1000 : Shape := ⟨2, ![20480, 1000]⟩
abbrev S1024x20x1000 : Shape := ⟨3, ![1024, 20, 1000]⟩
abbrev S1024x1000x20 : Shape := ⟨3, ![1024, 1000, 20]⟩

abbrev nBuf : Space → Nat
  | .hbm => 28
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S1000x1000, .f32⟩
  | .hbm, ⟨2, _⟩ => ⟨S20480, .i32⟩
  | .hbm, ⟨3, _⟩ => ⟨S_, .i32⟩
  | .hbm, ⟨4, _⟩ => ⟨S20480, .i32⟩
  | .hbm, ⟨5, _⟩ => ⟨S20480, .i1⟩
  | .hbm, ⟨6, _⟩ => ⟨S_, .i32⟩
  | .hbm, ⟨7, _⟩ => ⟨S20480, .i32⟩
  | .hbm, ⟨8, _⟩ => ⟨S20480, .i32⟩
  | .hbm, ⟨9, _⟩ => ⟨S20480, .i32⟩
  | .hbm, ⟨10, _⟩ => ⟨S20480x1, .i32⟩
  | .hbm, ⟨11, _⟩ => ⟨S1, .i32⟩
  | .hbm, ⟨12, _⟩ => ⟨S_, .i32⟩
  | .hbm, ⟨13, _⟩ => ⟨S20480x1, .i32⟩
  | .hbm, ⟨14, _⟩ => ⟨S20480x1, .i1⟩
  | .hbm, ⟨15, _⟩ => ⟨S1x1, .i32⟩
  | .hbm, ⟨16, _⟩ => ⟨S20480x1, .i32⟩
  | .hbm, ⟨17, _⟩ => ⟨S20480x1, .i1⟩
  | .hbm, ⟨18, _⟩ => ⟨S20480x1, .i1⟩
  | .hbm, ⟨19, _⟩ => ⟨S_, .i1⟩
  | .hbm, ⟨20, _⟩ => ⟨S20480, .i1⟩
  | .hbm, ⟨21, _⟩ => ⟨S20480x1000, .f32⟩
  | .hbm, ⟨22, _⟩ => ⟨S20480x1000, .i1⟩
  | .hbm, ⟨23, _⟩ => ⟨S_, .f32⟩
  | .hbm, ⟨24, _⟩ => ⟨S20480x1000, .f32⟩
  | .hbm, ⟨25, _⟩ => ⟨S20480x1000, .f32⟩
  | .hbm, ⟨26, _⟩ => ⟨S1024x20x1000, .f32⟩
  | .hbm, ⟨27, _⟩ => ⟨S1024x1000x20, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.OneHot.lean ====
/-
  THE FUNCTION that the kernel and the reference both compute over the extended reals: entry `(b, d, j)` of the result is 1
  where the index word `x[b, j]` is the class number `d`, and 0 elsewhere. `indicator_of_compare` is how the kernel makes one
  such entry (compare, widen the bit to a word, convert the word to a float).
-/
module

public import Idealize.ShloMosaic.Lib.IdealHost
public import Idealize.ShloMosaic.Lib.ValueIdx
public import Idealize.ShloMosaic.Lib.WordCmp
public import Idealize.ShloMosaic.Lib.Affine

@[expose] public section

noncomputable section

open Idealize.ShloMosaic Idealize.ShloMosaic.ValueIdx

namespace Cert.OneHot

/-- 1 where the word `x` is the class number `d`, else 0. -/
def indicator (x : BitVec 32) (d : Nat) : Ideal .f32 := if x = BitVec.ofNat 32 d then (1 : EReal) else 0

/-- The one-hot array of the 1024 × 20 index words, classes on the middle axis. -/
def oneHot (x : IVec ⟨2, ![1024, 20]⟩ 32) : FVec Ideal ⟨3, ![1024, 1000, 20]⟩ .f32 :=
  fun i => indicator (x (ix2 (i 0) (i 2))) (i 1 : Nat)

/-- The comparison's bit, widened to a word and converted exactly, is the indicator. -/
theorem indicator_of_compare (x : BitVec 32) (d : Nat) :
    (FloatOps.sitofp .f32 ((IntOp.cmpi .eq x (BitVec.ofNat 32 d)).setWidth 32) : Ideal .f32) = indicator x d := by
  unfold indicator
  by_cases h : x = BitVec.ofNat 32 d
  · rw [if_pos h, (IntOp.cmpi_eq).mpr h]
    show (((BitVec.setWidth 32 1#1).toInt : ℝ) : EReal) = 1
    have e : (BitVec.setWidth 32 1#1).toInt = 1 := by decide
    rw [e]; norm_num
  · have h0 : IntOp.cmpi .eq x (BitVec.ofNat 32 d) = 0#1 := eq_zero_of_ne_one fun h1 => h ((IntOp.cmpi_eq).mp h1)
    rw [if_neg h, h0]
    show (((BitVec.setWidth 32 0#1).toInt : ℝ) : EReal) = 0
    have e : (BitVec.setWidth 32 0#1).toInt = 0 := by decide
    rw [e]; norm_num

end Cert.OneHot

end
-- ==== Proof.KernelValue.lean ====
/-
  WHAT THE KERNEL COMPUTES. The program transposes the 1024 × 20 index array, views it as 20 rows of one line each, and runs
  a pipeline of 20 grid points; point `t` fetches line `t` and writes back the 1000 × 1024 slab of the comparisons of that
  line with the class numbers. A transpose then brings the batch axis first. Here: the slab of one point (`pay_apply`), the
  array that the pipeline leaves (`final_slabs`), and the result of the whole program (`run`), which is the one-hot array of
  the index words.
-/
module

public import proofs.«01_k».proof.Defs
public import proofs.«01_k».proof.Proof.Gen.KernelIdeal.Frame
public import proofs.«01_k».proof.Proof.OneHot
public import Idealize.ShloMosaic.Lib.Pipeline.Value
public import Idealize.ShloMosaic.Lib.ValueLayout
public import Idealize.ShloMosaic.Lib.Quiescent

@[expose] public section

noncomputable section

namespace Cert.KernelIdeal.OneHotValue

open Cert.KernelIdeal Cert.KernelIdeal.Gen Cert.OneHot
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One grid point -/

/-- The body's payload at class `d` and lane `b`: the indicator of the line's word at `b`. -/
theorem pay_apply (x : Vec Ideal S1x1x1024 .i32) (y : S1x1000x1024.Idx) :
    k0_pay1 x y = indicator (x (ix3 (0 : Fin 1) (0 : Fin 1) (y 2))) (y 1 : Nat) := by
  rw [← indicator_of_compare]
  unfold k0_pay1
  simp only [shapeCast_self]
  rw [shapeCast_shapeCast]
  show FloatOps.sitofp .f32 ((IntOp.cmpi .eq (broadcastTo S1x1000x1024 x broadcasts_S1x1x1024_S1x1000x1024 y)
    (iota .tc S1x1000x1024 32 [1] iota_S1x1000x1024_d1_w32 y)).setWidth 32) = _
  rw [iota_single_apply, broadcastTo_apply x _ y (ix3 (0 : Fin 1) (0 : Fin 1) (y 2)) (by
    intro a
    match a with
    | ⟨0, _⟩ => rfl
    | ⟨1, _⟩ => rfl
    | ⟨2, _⟩ => rfl)]

/-! ## The array that the pipeline leaves -/

/-- The slabs: at position `j`, class `d` and batch index `b` the indicator of `x[b, j]` at `d`. -/
def slabs (x : IVec S1024x20 32) : FVec Ideal S20x1000x1024 .f32 :=
  fun i => indicator (x (ix2 (i 2) (i 0))) (i 1 : Nat)

/-- When the pipeline starts its input holds, in line `j` at lane `b`, the index word `x[b, j]`. -/
theorem entry_apply (c : Dev nD) (j : Fin 20) (b : Fin 1024) :
    V m c main_v1 (ix3 j (0 : Fin 1) b) = m ((c : Thread nD τ).loc main_arg0) (ix2 b j) := by
  have e : V m c main_v1 = shapeCast S20x1x1024 (transpose S20x1024 [1, 0] (m ((c : Thread nD τ).loc main_arg0))
      transposes_S1024x20_S20x1024_1_0) shapeCasts_S20x1024_S20x1x1024 := by
    show StableHlo.after hostOps0 _ _ = _
    unfold hostOps0
    after_results
    rfl
  rw [e]
  rw [shapeCast_apply _ _ (ix3 j (0 : Fin 1) b) (ix2 j b) (by
    rw [Shape.rowMajor_val_two, Shape.rowMajor_val_three]
    show j.val * 1024 + b.val = (j.val * 1 + 0) * 1024 + b.val
    omega)]
  exact transpose_ix2_apply _ _ j b

/-- At grid point `t` the block index is `(t, 0, 0)`, of the input window and of the output window. -/
theorem index_val (t : Fin cfg0.N) :
    (win0_0.index t 0 = t.val ∧ win0_0.index t 1 = 0 ∧ win0_0.index t 2 = 0)
      ∧ win0_1.index t 0 = t.val ∧ win0_1.index t 1 = 0 ∧ win0_1.index t 2 = 0 := by
  revert t; decide +kernel

/-- What point `t` writes back is its slab. -/
theorem flushed_eq (c : Dev nD) (t : Fin cfg0.N) :
    (dats m 0 c).flushed 1 t = (win0_1.blk t).view.read (Elt Ideal) (slabs (m ((c : Thread nD τ).loc main_arg0))) := by
  show (cfg0.win 1).cut (grid0.coords t) ((dats m 0 c).after 1 t) = _
  rw [after0_1]
  unfold out0_1
  have hz : (![0, 0, 0] : Fin 3 → Nat) = fun _ => 0 := funext fun a => by fin_cases a <;> rfl
  rw [View.canon_unit_zero hz, View.ld_unit_zero hz]
  have ht : t.val < 20 := lt_of_lt_of_eq t.isLt N_0
  funext y
  have hy0 : (y 0 : Nat) < 1 := (y 0).isLt
  have hy1 : (y 1 : Nat) < 1000 := (y 1).isLt
  have hy2 : (y 2 : Nat) < 1024 := (y 2).isLt
  obtain ⟨⟨a0, a1, a2⟩, b0, b1, b2⟩ := index_val t
  have hin : (win0_0.rect t).emb (ix3 (0 : Fin 1) (0 : Fin 1) (⟨y 2, hy2⟩ : Fin 1024))
      = ix3 (⟨t.val, ht⟩ : Fin 20) (0 : Fin 1) (⟨y 2, hy2⟩ : Fin 1024) := by
    funext a
    apply Fin.ext
    rw [win0_0.rect_emb_val t _ a]
    match a with
    | ⟨0, _⟩ => show win0_0.index t 0 * 1 + 0 = t.val; omega
    | ⟨1, _⟩ => show win0_0.index t 1 * 1 + 0 = 0; omega
    | ⟨2, _⟩ => show win0_0.index t 2 * 1024 + (y 2 : Nat) = (y 2 : Nat); omega
  have hout : (win0_1.rect t).emb y
      = ix3 (⟨t.val, ht⟩ : Fin 20) (⟨y 1, hy1⟩ : Fin 1000) (⟨y 2, hy2⟩ : Fin 1024) := by
    funext a
    apply Fin.ext
    rw [win0_1.rect_emb_val t _ a]
    match a with
    | ⟨0, _⟩ => show win0_1.index t 0 * 1 + (y 0 : Nat) = t.val; omega
    | ⟨1, _⟩ => show win0_1.index t 1 * 1000 + (y 1 : Nat) = (y 1 : Nat); omega
    | ⟨2, _⟩ => show win0_1.index t 2 * 1024 + (y 2 : Nat) = (y 2 : Nat); omega
  rw [View.read_apply]
  show k0_pay1 (iblk m c 0 t) (ix3 (⟨y 0, hy0⟩ : Fin 1) (⟨y 1, hy1⟩ : Fin 1000) (⟨y 2, hy2⟩ : Fin 1024))
    = slabs (m ((c : Thread nD τ).loc main_arg0)) ((win0_1.rect t).emb y)
  rw [pay_apply, hout]
  show indicator (V m c main_v1 ((win0_0.rect t).emb (ix3 (0 : Fin 1) (0 : Fin 1) (⟨y 2, hy2⟩ : Fin 1024)))) (y 1 : Nat)
    = indicator _ _
  rw [hin, entry_apply]

/-- Every entry lies in the block of the grid point that its leading coordinate names. -/
theorem cover (i : S20x1000x1024.Idx) :
    ∃ t : Fin cfg0.N, (cfg0.win 1).flush t = true ∧ i ∈ ((cfg0.win 1).blk t).view.set := by
  have h0 : (i 0 : Nat) < 20 := (i 0).isLt
  have h1 : (i 1 : Nat) < 1000 := (i 1).isLt
  have h2 : (i 2 : Nat) < 1024 := (i 2).isLt
  let t : Fin cfg0.N := ⟨i 0, lt_of_lt_of_eq h0 N_0.symm⟩
  obtain ⟨_, b0, b1, b2⟩ := index_val t
  have ht : t.val = (i 0 : Nat) := rfl
  refine ⟨t, flush0_1 t, ?_⟩
  show i ∈ ((View.whole main_v2).slice (win0_1.rect t)).set
  rw [View.set_slice_whole, Rect.mem_set_unit]
  intro a
  match a with
  | ⟨0, _⟩ => show win0_1.index t 0 * 1 ≤ (i 0 : Nat) ∧ (i 0 : Nat) < win0_1.index t 0 * 1 + 1; omega
  | ⟨1, _⟩ => show win0_1.index t 1 * 1000 ≤ (i 1 : Nat) ∧ (i 1 : Nat) < win0_1.index t 1 * 1000 + 1000; omega
  | ⟨2, _⟩ => show win0_1.index t 2 * 1024 ≤ (i 2 : Nat) ∧ (i 2 : Nat) < win0_1.index t 2 * 1024 + 1024; omega

/-- The pipeline leaves the slabs in its output array. -/
theorem final_slabs (c : Dev nD) :
    (dats m 0 c).arrAt 1 cfg0.N = slabs (m ((c : Thread nD τ).loc main_arg0)) :=
  (dats m 0 c).arrAt_eq_of_cover 1 _ (fun t _ => flushed_eq m c t) cover

/-! ## The whole program -/

/-- The slabs with the batch axis brought first are the one-hot array. -/
theorem transpose_slabs (x : IVec S1024x20 32) (h : S20x1000x1024.Transposes [2, 1, 0] S1024x1000x20) :
    transpose S1024x1000x20 [2, 1, 0] (slabs x) h = oneHot x := by
  funext i
  rw [transpose_apply [2, 1, 0] (slabs x) h i (ix3 (i 2) (i 1) (i 0)) (by
    intro a
    match a with
    | ⟨0, _⟩ => rfl
    | ⟨1, _⟩ => rfl
    | ⟨2, _⟩ => rfl)]
  rfl

/-- The transpose after the pipeline reads the slabs, so the program's result is the one-hot array. -/
theorem tail_eq (c : Dev nD) :
    Pipeline.afterTail₀ cfgs (dats m) 0 (V0 m) [hostOps1] c main_v3 = oneHot (m ((c : Thread nD τ).loc main_arg0)) := by
  unfold Pipeline.afterTail₀
  show StableHlo.after hostOps1 _ _ = _
  unfold hostOps1
  after_results
  rw [← transpose_slabs, ← final_slabs m c]
  exact congrArg (fun z => transpose S1024x1000x20 [2, 1, 0] z _)
    (Pipeline.withArrays_arr spec0 (by decide) c (V0 m c) (fun w => (dats m 0 c).arrAt w cfg0.N) 1)

/-- Every run of the program ends with the one-hot array in its result and with both arguments unchanged. -/
theorem run : θ_run defs (onTc (τ := τ) (main (F := Ideal))) ⟨m, fun _ => 0, ρ⟩ fun r => ∀ c : Dev nD,
      r.2.mem ((c : Thread nD τ).loc main_v3) = oneHot (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.OneHotValue

end
-- ==== Proof.ReferenceValue.lean ====
/-
  WHAT THE REFERENCE COMPUTES on index words that are class numbers and on the identity table. The reference flattens the
  1024 × 20 words, wraps negative ones, takes the named rows of the table (a row of NaNs where a word is out of range), and
  views the 20480 rows as 1024 × 20 rows with the class axis brought before the position axis. With every word in [0, 1000)
  nothing wraps (`words_apply`) and nothing is filled (`mask_one`), so entry `(b, d, j)` is the table's entry at row `x[b, j]`
  and column `d`, which for the identity table is the one-hot array's entry (`result_eq`).
-/
module

public import proofs.«01_k».proof.Defs
public import proofs.«01_k».proof.Proof.Gen.ReferenceIdeal.Run
public import proofs.«01_k».proof.Proof.OneHot
public import Idealize.ShloMosaic.Lib.ReduceAll
public import Idealize.ShloMosaic.Lib.Pipeline.Value
public import Idealize.ShloMosaic.Lib.ValueLayout

@[expose] public section

noncomputable section

namespace Cert.ReferenceIdeal.OneHotValue

open Cert.ReferenceIdeal Cert.ReferenceIdeal.Gen Cert.OneHot Cert.ReferenceIdeal.Facts
open Idealize.ShloMosaic Idealize.ShloMosaic.TcCoe Idealize.ShloMosaic.ValueIdx Idealize.SL.Sem

/-! ## Taking rows of a table -/

/-- The row that a word names: the word read signed, clamped to the table's rows. -/
def row (v : BitVec 32) : Fin 1000 := ⟨min v.toInt.toNat 999, by omega⟩

/-- The gather that takes whole rows: its result at `(n, d)` is the table's entry at column `d` of the row that word `n` of the
    start indices names. -/
theorem take_row (t : FVec Ideal S1000x1000 .f32) (idx : IVec S20480x1 32) (n : Fin 20480) (d : Fin 1000) :
    Host.gather gather_S1000x1000_S20480x1_S20480x1000_1_0_n_n_0_1_11000 t idx (ix2 n d)
      = t (ix2 (row (idx (ix2 n (0 : Fin 1)))) d) := by
  unfold Host.gather
  congr 1
  funext a
  apply Fin.ext
  let g := gather_S1000x1000_S20480x1_S20480x1000_1_0_n_n_0_1_11000
  show g.start (ix2 n d) idx a + g.batchCoord (ix2 n d) a + g.offCoord (ix2 n d) a = _
  rw [g.batchCoord_eq_zero _ a (List.not_mem_nil)]
  match a with
  | ⟨0, _⟩ =>
    have h1 : g.offCoord (ix2 n d) (0 : Fin 2) = 0 :=
      g.offCoord_eq_zero _ _ (fun h => ((g.mem_sKept _).1 h).1 (List.mem_singleton.2 rfl))
    have hs : g.siIdx (ix2 n d) ⟨0, by decide⟩ = ix2 n (0 : Fin 1) := by
      funext b
      apply Fin.ext
      match b with
      | ⟨0, _⟩ => rfl
      | ⟨1, _⟩ => rfl
    show g.start (ix2 n d) idx (0 : Fin 2) + 0 + g.offCoord (ix2 n d) (0 : Fin 2)
      = min (idx (ix2 n (0 : Fin 1))).toInt.toNat 999
    rw [h1, ← hs]
    rfl
  | ⟨1, _⟩ =>
    show g.start (ix2 n d) idx (1 : Fin 2) + 0 + g.offCoord (ix2 n d) (1 : Fin 2) = d.val
    have h0 : g.start (ix2 n d) idx (1 : Fin 2) = 0 := rfl
    have h1 : g.offCoord (ix2 n d) (1 : Fin 2) = d.val := rfl
    rw [h0, h1]
    omega

/-! ## The row numbers -/

/-- The index words in one line. -/
abbrev flat (x : IVec S1024x20 32) : IVec S20480 32 := shapeCast _ x shapeCasts_S1024x20_S20480

/-- The row numbers that the rows are taken at: the words in one line, negative ones raised by 1000, with a unit axis after. -/
abbrev words (x : IVec S1024x20 32) : IVec S20480x1 32 :=
  broadcastInDim S20480x1 ![0] bcast_S20480_S20480x1_0
    (select (cmpi .slt (flat x) (broadcastInDim S20480 ![] bcast_S_S20480 (constantI S_ 32 0#32)))
      (addi (flat x) (broadcastInDim S20480 ![] bcast_S_S20480 (constantI S_ 32 1000#32))) (flat x))

/-- Word `20 b + j` of the line is `x[b, j]`. -/
theorem flat_apply (x : IVec S1024x20 32) (b : Fin 1024) (j : Fin 20) (n : Fin 20480) (hn : n.val = b.val * 20 + j.val) :
    flat x (ix1 n) = x (ix2 b j) :=
  shapeCast_apply _ _ _ _ (by
    rw [Shape.rowMajor_val_two, Shape.rowMajor_val_one]
    exact hn.symm)

/-- A word that is not negative is its own row number. -/
theorem words_apply (x : IVec S1024x20 32) (hx : ∀ i, 0 ≤ (x i).toInt ∧ (x i).toInt < 1000) (b : Fin 1024) (j : Fin 20)
    (n : Fin 20480) (hn : n.val = b.val * 20 + j.val) : words x (ix2 n (0 : Fin 1)) = x (ix2 b j) := by
  unfold words
  rw [broadcastInDim_apply _ _ _ (ix2 n (0 : Fin 1)) (ix1 n) (by
    intro a
    match a with
    | ⟨0, _⟩ => rfl)]
  show Scalar.select (IntOp.cmpi .slt (flat x (ix1 n)) 0#32) (IntOp.addi (flat x (ix1 n)) 1000#32) (flat x (ix1 n)) = _
  rw [flat_apply x b j n hn]
  have h : IntOp.cmpi .slt (x (ix2 b j)) 0#32 = 0#1 := eq_zero_of_ne_one fun h => by
    have h1 := IntOp.cmpi_slt.1 h
    have h2 := (hx (ix2 b j)).1
    have h3 : (0#32 : BitVec 32).toInt = 0 := by decide
    omega
  rw [h, select_zero]

/-- Every row number is in the table. -/
theorem words_range (x : IVec S1024x20 32) (hx : ∀ i, 0 ≤ (x i).toInt ∧ (x i).toInt < 1000) (i : S20480x1.Idx) :
    0 ≤ (words x i).toInt ∧ (words x i).toInt < 1000 := by
  have h0 : (i 0 : Nat) < 20480 := (i 0).isLt
  have h1 : (i 1 : Nat) < 1 := (i 1).isLt
  have hi : i = ix2 (⟨i 0, h0⟩ : Fin 20480) (0 : Fin 1) := by
    funext a
    apply Fin.ext
    match a with
    | ⟨0, _⟩ => rfl
    | ⟨1, _⟩ => show (i 1 : Nat) = 0; omega
  rw [hi, words_apply x hx ⟨(i 0 : Nat) / 20, by omega⟩ ⟨(i 0 : Nat) % 20, by omega⟩ _ (by
    show (i 0 : Nat) = (i 0 : Nat) / 20 * 20 + (i 0 : Nat) % 20
    omega)]
  exact hx _

/-! ## The mask of the rows that are in the table -/

/-- The bit of each row: whether its number is at least 0 and at most 999. -/
abbrev mask (x : IVec S1024x20 32) : IVec S20480 1 :=
  Host.reduce IntOp.andi (andi (cmpi .sge (words x) (broadcastInDim S20480x1 ![] bcast_S_S20480x1 (constantI S_ 32 0#32)))
    (cmpi .sle (words x) (broadcastInDim S20480x1 ![0, 1] bcast_S1x1_S20480x1_0_1
      (broadcastInDim S1x1 ![1] bcast_S1_S1x1_1 (constantI S1 32 999#32))))) (constantI S_ 1 1#1)
    reducesTo_S20480x1_S20480_d1 h_S_

/-- The mask is 1 everywhere. -/
theorem mask_one (x : IVec S1024x20 32) (hx : ∀ i, 0 ≤ (x i).toInt ∧ (x i).toInt < 1000) (n : S20480.Idx) : mask x n = 1#1 := by
  refine Host.reduce_andi_one _ _ _ _ n rfl fun i => ?_
  obtain ⟨hl, hu⟩ := words_range x hx i
  refine IntOp.andi_eq_one.2 ⟨IntOp.cmpi_sge.2 ?_, IntOp.cmpi_sle.2 ?_⟩
  · show (0#32 : BitVec 32).toInt ≤ (words x i).toInt
    have h3 : (0#32 : BitVec 32).toInt = 0 := by decide
    omega
  · show (words x i).toInt ≤ (999#32 : BitVec 32).toInt
    have h3 : (999#32 : BitVec 32).toInt = 999 := by decide
    omega

/-! ## The result -/

/-- The reference's result: the rows of `t` at the words of `x`, masked, the class axis brought to the middle. -/
abbrev result (x : IVec S1024x20 32) (t : FVec Ideal S1000x1000 .f32) : FVec Ideal S1024x1000x20 .f32 :=
  transpose S1024x1000x20 [0, 2, 1] (shapeCast _ (select (broadcastInDim S20480x1000 ![0] bcast_S20480_S20480x1000_0 (mask x))
    (Host.gather gather_S1000x1000_S20480x1_S20480x1000_1_0_n_n_0_1_11000 t (words x))
    (broadcastInDim S20480x1000 ![] bcast_S_S20480x1000 (constant S_ .f32 0x7FC00000#32)))
    shapeCasts_S20480x1000_S1024x20x1000) transposes_S1024x20x1000_S1024x1000x20_0_2_1

/-- An entry of the identity table at the row a class number names is the indicator. -/
theorem identity_row (t : FVec Ideal S1000x1000 .f32) (ht : ∀ r d : Fin 1000, t (ix2 r d) = if r = d then (1 : EReal) else 0)
    (v : BitVec 32) (hv : 0 ≤ v.toInt ∧ v.toInt < 1000) (d : Fin 1000) :
    t (ix2 (row v) d) = indicator v d.val := by
  rw [ht]
  unfold indicator
  have hd := d.isLt
  have hn : v.toInt.toNat = v.toNat := by
    have := BitVec.toInt_eq_toNat_cond v
    split at this <;> omega
  refine if_congr ?_ rfl rfl
  constructor
  · intro h
    have h1 : min v.toInt.toNat 999 = d.val := congrArg Fin.val h
    apply BitVec.eq_of_toNat_eq
    rw [BitVec.toNat_ofNat]
    omega
  · intro h
    have h1 := congrArg BitVec.toNat h
    rw [BitVec.toNat_ofNat] at h1
    apply Fin.ext
    show min v.toInt.toNat 999 = d.val
    omega

/-- On class numbers and the identity table the reference's result is the one-hot array. -/
theorem result_eq (x : IVec S1024x20 32) (t : FVec Ideal S1000x1000 .f32)
    (hx : ∀ i, 0 ≤ (x i).toInt ∧ (x i).toInt < 1000)
    (ht : ∀ r d : Fin 1000, t (ix2 r d) = if r = d then (1 : EReal) else 0) : result x t = oneHot x := by
  funext i
  have h0 : (i 0 : Nat) < 1024 := (i 0).isLt
  have h1 : (i 1 : Nat) < 1000 := (i 1).isLt
  have h2 : (i 2 : Nat) < 20 := (i 2).isLt
  let b : Fin 1024 := ⟨i 0, h0⟩
  let d : Fin 1000 := ⟨i 1, h1⟩
  let j : Fin 20 := ⟨i 2, h2⟩
  let n : Fin 20480 := ⟨(i 0 : Nat) * 20 + (i 2 : Nat), by omega⟩
  unfold result
  rw [transpose_apply _ _ _ i (ix3 b j d) (by
      intro a
      match a with
      | ⟨0, _⟩ => rfl
      | ⟨1, _⟩ => rfl
      | ⟨2, _⟩ => rfl),
    shapeCast_apply _ _ (ix3 b j d) (ix2 n d) (by
      rw [Shape.rowMajor_val_two, Shape.rowMajor_val_three]
      rfl),
    select_apply, broadcastInDim_apply _ _ _ (ix2 n d) (ix1 n) (by
      intro a
      match a with
      | ⟨0, _⟩ => rfl),
    mask_one x hx, select_one, take_row, words_apply x hx b j n rfl]
  exact identity_row t ht _ (hx _) d

/-- Every run of the reference ends with that result and with both arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Cert.ReferenceIdeal.OneHotValue

end
-- ==== Proof.Inputs.lean ====
/-
  THE PRECONDITION, READ. `one_hot_inputs` is stated by the jax function of that name: every index word lies in [0, 1000), and
  the table is the 1000 × 1000 identity. The function returns one bit, the conjunction of two reductions by `and`; here that
  bit's value 1 is turned into the two facts about the arrays (`range_of_pre`, `identity_of_pre`).
-/
module

public import proofs.«01_k».proof.Defs
public import proofs.«01_k».proof.Proof.Gen.Pre_one_hot_inputs
public import Idealize.ShloMosaic.Lib.ReduceAll
public import Idealize.ShloMosaic.Lib.IdealHost
public import Idealize.ShloMosaic.Lib.ValueIdx
public import Idealize.ShloMosaic.Lib.WordCmp
public import Idealize.ShloMosaic.Lib.Affine

@[expose] public section

noncomputable section

namespace Cert.Pre_one_hot_inputs.Read

open Cert.Pre_one_hot_inputs
open Idealize.ShloMosaic Idealize.ShloMosaic.ValueIdx

instance : Subsingleton S_.Idx := ⟨fun a b => funext fun k => k.elim0⟩

variable (x : IVec S1024x20 32) (t : FVec Ideal S1000x1000 .f32)

/-- The bit is 1 only where both reductions are 1. -/
theorem halves (h : fn (F := Ideal) x t = fun _ => 1#1) :
    (∀ i, andi (cmpi .sge x (broadcastInDim S1024x20 ![] Facts.bcast_S_S1024x20 (constantI S_ 32 0#32)))
        (cmpi .slt x (broadcastInDim S1024x20 ![] Facts.bcast_S_S1024x20 (constantI S_ 32 1000#32))) i = 1#1)
      ∧ ∀ i, cmpf .oeq t (fn_where (F := Ideal) (cmpi .eq (iotaInDim S1000x1000 32 0) (iotaInDim S1000x1000 32 1))
          (constant S_ .f32 0x3F800000#32) (constant S_ .f32 0x00000000#32)) i = 1#1 := by
  have h0 := IntOp.andi_eq_one.1 (congrFun h (Shape.Idx.first Facts.h_S_))
  exact ⟨fun i => Host.reduce_andi_all _ _ _ _ _ h0.1 i, fun i => Host.reduce_andi_all _ _ _ _ _ h0.2 i⟩

/-- Every index word, read signed, is a class number. -/
theorem range_of_pre (h : fn (F := Ideal) x t = fun _ => 1#1) (i : S1024x20.Idx) :
    0 ≤ (x i).toInt ∧ (x i).toInt < 1000 := by
  obtain ⟨hge, hlt⟩ := IntOp.andi_eq_one.1 ((halves x t h).1 i)
  have h1 := IntOp.cmpi_sge.1 hge
  have h2 := IntOp.cmpi_slt.1 hlt
  exact ⟨h1, h2⟩

/-- The table is the identity. -/
theorem identity_of_pre (h : fn (F := Ideal) x t = fun _ => 1#1) (r d : Fin 1000) :
    t (ix2 r d) = if r = d then (1 : EReal) else 0 := by
  have e := (halves x t h).2 (ix2 r d)
  have e' : BitVec.ofBool (decide (t (ix2 r d) = Scalar.select (IntOp.cmpi .eq (BitVec.ofNat 32 r.val) (BitVec.ofNat 32 d.val))
      (Ideal.ofBits .f32 0x3F800000#32) (Ideal.ofBits .f32 0x00000000#32))) = 1#1 := e
  rw [Ideal.ofBits_one_f32, Ideal.ofBits_zero_f32] at e'
  have h1 : t (ix2 r d) = Scalar.select (IntOp.cmpi .eq (BitVec.ofNat 32 r.val) (BitVec.ofNat 32 d.val)) (1 : EReal) 0 := by
    by_contra hne
    rw [decide_eq_false hne] at e'
    exact absurd e' (by decide)
  rw [h1]
  by_cases hrd : r = d
  · rw [if_pos hrd, IntOp.cmpi_eq.2 (by rw [hrd]), select_one]
  · have hne : ¬ (BitVec.ofNat 32 r.val = BitVec.ofNat 32 d.val) := fun hw => hrd (Fin.ext (by
      have hn := congrArg BitVec.toNat hw
      rw [BitVec.toNat_ofNat, BitVec.toNat_ofNat] at hn
      have := r.isLt
      have := d.isLt
      omega))
    rw [if_neg hrd, eq_zero_of_ne_one fun hc => hne (IntOp.cmpi_eq.1 hc), select_zero]

end Cert.Pre_one_hot_inputs.Read

end
-- ==== Proof.lean ====
/-
  The proof of `Cert.Claim` (proofs.«01_k».proof.Defs). The frames of the printed kernel and of its idealization are the
  generated ones; the reference's frame is read off its generated run. The value claim meets in the middle: the kernel's result
  is the one-hot array of the index words (Proof/KernelValue.lean), and so is the reference's on the inputs that the
  precondition admits (Proof/ReferenceValue.lean, with Proof/Inputs.lean reading the precondition).
-/
module

public import proofs.«01_k».proof.Defs
public import proofs.«01_k».proof.Proof.KernelValue
public import proofs.«01_k».proof.Proof.ReferenceValue
public import proofs.«01_k».proof.Proof.Inputs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_hot_inputs
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates from every start, with its arguments unchanged and every semaphore counter at zero. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.OneHotValue.run m ρ)

/-- On index words that are class numbers and on the identity table, the kernel's idealization and the reference end with the
    same array: the one-hot array of the index words. -/
theorem algebraic : Cert.algebraic_KernelIdeal_ReferenceIdeal_pre_one_hot_inputs := by
  intro m ρ m' ρ' hpre hagree
  refine ⟨fun c => Cert.OneHot.oneHot (m ((c.tc : Thread Cert.KernelIdeal.nD Cert.KernelIdeal.τ).loc Cert.KernelIdeal.main_arg0)),
    Cert.KernelIdeal.OneHotValue.run m ρ, ?_⟩
  refine (θ_run Cert.ReferenceIdeal.defs _ _).mono (fun r h c => ⟨(h c).1.trans ?_, (h c).2.1, (h c).2.2⟩)
    (Cert.ReferenceIdeal.OneHotValue.run m' ρ')
  rw [(hagree c).1, (hagree c).2]
  exact Cert.ReferenceIdeal.OneHotValue.result_eq _ _ (Cert.Pre_one_hot_inputs.Read.range_of_pre _ _ (hpre c))
    (Cert.Pre_one_hot_inputs.Read.identity_of_pre _ _ (hpre c))

theorem claim : Cert.Claim :=
  ⟨Cert.Kernel.Gen.facts, Cert.KernelIdeal.Gen.facts, Cert.ReferenceIdeal.Gen.facts, Cert.Pre_one_hot_inputs.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
